-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x8192 : Shape := ⟨2, ![4096, 8192]⟩
abbrev S8 : Shape := ⟨1, ![8]⟩
abbrev S1 : Shape := ⟨1, ![1]⟩
abbrev S_ : Shape := ⟨0, ![]⟩
abbrev S512x8192 : Shape := ⟨2, ![512, 8192]⟩

abbrev nBuf : Space → Nat
  | .hbm => 2
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

abbrev grid0 : Pipeline.Grid := .none
-- ==== Reference.lean ====
abbrev S4096x8192 : Shape := ⟨2, ![4096, 8192]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S4096x8192, .f32⟩
  | .hbm, ⟨21, _⟩ => ⟨S4096x8192, .i1⟩
  | .hbm, ⟨22, _⟩ => ⟨S_, .f32⟩
  | .hbm, ⟨23, _⟩ => ⟨S4096x8192, .f32⟩
  | .hbm, ⟨24, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v1 : Ref sig .tc := ⟨.hbm, 24, rfl⟩

abbrev nD : Nat := 1
abbrev τ : Topo := Topo.v7x

variable {F : FTy → Type} [FloatOps F]
-- ==== Proof.Rows.lean ====
/-
  The contents an array ends with when copies have carried pieces of another array of the same shape to the
  same places: if the pieces cover the array, it ends equal to the one they were read from.
-/
module

public import proofs.«01_k».proof.Proof.Gen.Kernel.Skeleton
public import Idealize.ShloMosaic.Lib.Pipeline.FrameBody
public import Idealize.ShloMosaic.Lib.Tactic

@[expose] public section

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

/-- The array copied from, whole. -/
abbrev src : Memref sig .tc .hbm S4096x8192 .f32 := Memref.whole main_arg0
/-- The array copied to, whole. -/
abbrev dst : Memref sig .tc .hbm S4096x8192 .f32 := Memref.whole main_v0

/-- Reading the target array through its whole view gives its contents as they stand. -/
theorem read_dst (h : dst.view.ty.Contents (Elt F)) : dst.view.read (Elt F) h = h := rfl

/-- Writing pieces over any contents `g` of the target leaves `f`, when each piece holds `f` at the places it is
    written to and every place lies in some piece. -/
theorem writes_eq (f : S4096x8192.Idx → Elt F .f32) (g : dst.view.ty.Contents (Elt F))
    (L : List (View.Piece (Elt F) S4096x8192 .f32))
    (agree : ∀ p ∈ L, ∀ x : p.1.shape.Idx, p.2 x = f (p.1.emb x))
    (cover : ∀ y, ∃ p ∈ L, y ∈ p.1.set) : dst.view.writes (Elt F) g L = f := by
  rw [← read_dst (dst.view.writes (Elt F) g L)]
  funext y
  exact View.read_writes_apply_of_pieces dst.view g f L agree y (cover y)

end Cert.Kernel.Copy

end
-- ==== Proof.Body.lean ====
/-
  One run of the kernel's body: eight copies of 512 rows each, all started before the first is waited for, each on
  a semaphore of its own. The body ends with the source as it was, the target equal to the source and the eight
  semaphores back at zero.
-/
module

public import proofs.«01_k».proof.Proof.Rows
public import proofs.«01_k».proof.Proof.Gen.Kernel.Points
public import Idealize.ShloMosaic.Lib.Ring
public import Idealize.ShloMosaic.Lib.WordCmp

@[expose] public section

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

/-- The propositions of the program's separation logic. -/
local notation "𝕄" => MT nD τ sig Unit (Elt F) ℕ (Pipeline.UD sig nD τ) ℕ

/-- The contents of the buffer behind a memref. -/
abbrev Held (c : Dev nD) (M : Memref sig .tc .hbm S4096x8192 .f32) : Type := Buf (Elt F) (M.view.loc (c : Thread nD τ))

/-- The buffer behind a memref, owned whole at contents `f`. -/
abbrev held (c : Dev nD) (M : Memref sig .tc .hbm S4096x8192 .f32) (f : Held (F := F) c M) : sProp 𝕄 :=
  M.view.loc (c : Thread nD τ) ↦{fullShare} f

/-- The eight copy semaphores, each at zero. -/
abbrev cells (c : Dev nD) : sProp 𝕄 :=
  iprop(semVal ((c : Thread nD τ), SemLoc.dma 0) 0 ∗ semVal ((c : Thread nD τ), SemLoc.dma 1) 0
    ∗ semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0)

set_option sl_exec.dmaWindow true in
/-- The body's triple. From the semaphores at zero, the source at `f`, the target at anything and nothing owed, the
    body reaches its continuation with the semaphores at zero, the source still at `f` and the target at `f`. -/
theorem body_run (c : Dev nD) (f : Held (F := F) c src) (g : Held (F := F) c dst) (W : Waits sig Unit) (K : PUnit → sProp 𝕄) :
    iprop(cells c ∗ held c src f ∗ held c dst g ∗ owes (c : Thread nD τ) 0 W
        ∗ (iprop(cells c ∗ held c src f ∗ held c dst f ∗ (∃ W', owes (c : Thread nD τ) 0 W')) -∗ K ⟨⟩))
      ⊢ wp frame (wpE (defs₀ (F := F)) Variants.none c none) Set.univ
          (cc0__dma_copy src (Memref.isWhole_whole _) dst (Memref.isWhole_whole _) cc0_scratch0) K := by
  simp only [cc0__dma_copy_eq_skeleton]; unfold cc0__dma_copy_skel
  simp only [k0_part1_eq_skeleton, k0_part2_eq_skeleton]; unfold k0_part1_skel k0_part2_skel
  iintro ⟨⟨H0, H1, H2, H3, H4, H5, H6, H7⟩, Hs, Hd, HW, Hk⟩
  sl_exec
  sl_step
  rw [writes_eq f g]
  case agree =>
    simp only [List.forall_mem_cons]
    exact ⟨fun _ => rfl, fun _ => rfl, fun _ => rfl, fun _ => rfl, fun _ => rfl, fun _ => rfl, fun _ => rfl, fun _ => rfl,
      fun _ h => absurd h List.not_mem_nil⟩
  case cover => exact View.cover_of_tiledL _ S512x8192.size (by sl_kernel_rfl)
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hs]; · iexact Hs
  isplitl [Hd]; · iexact Hd
  iexists _; iexact HW

end Cert.Kernel.Copy

end
-- ==== Proof.Run.lean ====
/-
  The whole program: it ends on every core with the result equal to the argument, the argument as it was and every
  semaphore at zero. This is one launch of a kernel whose grid has a single point, so the body runs once.
-/
module

public import proofs.«01_k».proof.Proof.Body
public import proofs.«01_k».proof.Proof.Gen.Kernel.Launch
public import Idealize.ShloMosaic.Lib.Pipeline.FrameValue

@[expose] public section

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

/-- The propositions of the program's separation logic. -/
local notation "𝕄" => MT nD τ sig Unit (Elt F) ℕ (Pipeline.UD sig nD τ) ℕ

variable (m : (ℓ : Loc nD τ sig) → Buf (Elt F) ℓ) (ρ : Dev nD → PrngReg)

/-- What each buffer holds when the kernel is launched: what memory starts with. -/
abbrev V (c : Dev nD) (b : Ref sig .tc) : Buf (Elt F) ((c : Thread nD τ).loc b) := m ((c : Thread nD τ).loc b)

/-- What each buffer holds when the kernel has ended: the result holds the argument, all others what they held. -/
def G (c : Dev nD) : (b : Ref sig .tc) → Buf (Elt F) ((c : Thread nD τ).loc b) :=
  Function.update (V m c) main_v0 (V m c main_arg0)

theorem G_result (c : Dev nD) : G m c main_v0 = V m c main_arg0 := Function.update_self ..

/-- The buffers the body reads, and those it writes. -/
def reads : Finset (Ref sig .tc) := {main_arg0}
def written : Finset (Ref sig .tc) := {main_v0}
theorem reads_sub : reads ⊆ Pipeline.restRefs sig cfg0.spec := by decide
theorem written_sub : written ⊆ Pipeline.restRefs sig cfg0.spec \ reads := by decide

/-- The body's own semaphores. -/
abbrev osem : Fin 8 → SemLoc sig := fun j => SemLoc.dma j
theorem osem_facts : Pipeline.OwnSemFacts cfg0.spec osem := by decide

/-- The ownership the body works in, the result's contents given by `X`: the random-number register, the eight
    semaphores at zero, the argument at its contents and the result at `X`. -/
theorem owned_eq (X : (c : Dev nD) → (b : Ref sig .tc) → Buf (Elt F) ((c : Thread nD τ).loc b)) (c : Dev nD) :
    (Pipeline.ΦDRG osem cfg0.spec reads written (V m) X c : sProp 𝕄)
      = iprop(emp ∗ (∃ r, prngReg c r) ∗ cells c ∗ held c src (V m c main_arg0) ∗ held c dst (X c main_v0)) := by
  rw [Pipeline.ΦDRG_eq, scopedRest0_eq,
    Pipeline.ownSems0_eq_of_list c osem [0, 1, 2, 3, 4, 5, 6, 7] (by decide) (by decide),
    BI.bigSep_eq_bigSepL_of_eq (S := reads) [main_arg0] (by decide) (by decide)]
  unfold Pipeline.routed
  rw [BI.bigSep_eq_bigSepL_of_eq (S := written) [main_v0] (by decide) (by decide)]
  rfl

/-- The launch's proof data: before the one point the result is at its launch contents, after it at the argument's. -/
def dats (_ : Fin 1) (c : Dev nD) : Dat τ (Elt F) Unit ℕ (Pipeline.UD sig nD τ) ℕ cfg0 c where
  A w := w.elim0
  after w _ := w.elim0
  Φ k := Pipeline.ΦDRG osem cfg0.spec reads written (V m) (if k.val = 0 then V m else G m) c
  q _ := fullShare
  owed _ := 0

/-- The grid's one point runs the printed body. -/
theorem defs₀_row (t : Fin cfg0.N) : defs₀ (F := F) .tc cfg0.body (cfg0.bodyArgs t (cfg0.slots t)) = bodyAt0 t := by
  unfold defs₀; rw [Defs.onTc_tc]

/-- The body takes the ownership before the point to the ownership after it. -/
theorem body_obligation (c : Dev nD) : BodyObligation (dats (F := F) m 0 c) (defs₀ (F := F)) Variants.none () Set.univ := fun t => by
  have ht : t.val = 0 := Nat.lt_one_iff.mp (t.isLt.trans_eq N_0)
  rw [show Finset.univ (α := Fin cfg0.W) = ∅ from rfl, BI.bigSep_empty, BI.bigSep_empty, defs₀_row,
    show (dats m 0 c).Φ t.castSucc = Pipeline.ΦDRG osem cfg0.spec reads written (V m) (V m) c from by
      simp only [dats, Fin.val_castSucc, ht, if_true],
    show (dats m 0 c).Φ t.succ = Pipeline.ΦDRG osem cfg0.spec reads written (V m) (G m) c from by
      simp only [dats, Fin.val_succ, Nat.succ_ne_zero, if_false],
    owned_eq, owned_eq, G_result]
  unfold Dat.owesAt Pipeline.owesWithin
  rw [show (dats m 0 c).owed t.castSucc = 0 from rfl, show (dats m 0 c).owed t.succ = 0 from rfl]
  iintro ⟨⟨-, Hr, Hc, Hs, Hd⟩, ⟨%W, -, HW⟩, -⟩
  iapply (body_run c (V m c main_arg0) (V m c main_v0) W _)
  isplitl [Hc]; · iexact Hc
  isplitl [Hs]; · iexact Hs
  isplitl [Hd]; · iexact Hd
  isplitl [HW]; · iexact HW
  iintro ⟨Hc, Hs, Hd, ⟨%W', HW⟩⟩
  isplitl [Hr Hc Hs Hd]
  · isplitr; · iempintro
    isplitl [Hr]; · iexact Hr
    isplitl [Hc]; · iexact Hc
    isplitl [Hs]; · iexact Hs
    iexact Hd
  isplitl [HW]
  · iexists W'; isplitr; · ipureintro; exact fun _ _ => Or.inl trivial
    iexact HW
  iempintro

theorem hmain : Pipeline.HMain (Ix := Unit) (Name := ℕ) (U := Pipeline.UD sig nD τ) (Lvl := ℕ) cfgs 0 defs₀ Variants.none m
    (main (F := F)) (V m) :=
  Pipeline.hmain_region cfgs 0 defs₀ Variants.none m main fun c => (main_chain c).trans rfl

set_option backward.isDefEq.respectTransparency.types false in
/-- The launch, with every buffer's final contents and the semaphores. -/
theorem launched : θ_run defs (onTc (τ := τ) (main (F := F))) (s₀ m ρ)
    (fun r => Pipeline.FramePostRG cfgs (dats m) 0 written (V m) (G m) r ∧ r.2.sem = fun _ => 0) :=
  Pipeline.θ_run_frame_dmaRG (Q' := _) cfgs (dats m) (0 : Fin 1) launch0 osem defs₀ Variants.none osem_facts reads written
    reads_sub written_sub m ρ main
    (hbody := fun c => (body_obligation m c).loose) (hshare := fun _ w => w.elim0)
    (howed := fun _ _ => rfl) (V := V m) (hmain := hmain m) (hA := fun _ w => w.elim0) (G := G m)
    (hin := fun _ => .rfl) (hout := fun _ => .rfl)

/-- THE RUN. The program ends with the result equal to what the argument held at the start, the argument unchanged and
    every semaphore at zero, at any reading of the floats. -/
theorem run : θ_run defs (onTc (τ := τ) (main (F := F))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0))
      ∧ r.2.sem = fun _ => 0) :=
  (θ_run defs _ _).mono (fun _ h => ⟨fun c => ⟨(h.1.written c (by decide)).trans (G_result m c),
    (h.1.toR c).2 main_arg0 (Finset.mem_sdiff.mpr ⟨Pipeline.mem_restRefs_of main_arg0 (by decide) (by decide), by decide⟩)⟩,
    h.2⟩) (launched m ρ)

end Cert.Kernel.Copy

end
-- ==== Proof.Taken.lean ====
/-
  What the reference computes: taking the rows of an array at the row numbers 0, 1, …, 4095 gives the array back.

  The reference counts the row numbers, adds 4096 to those below zero (none is), takes the row at each number, and
  replaces by a fixed value the rows whose number lies outside 0 … 4095 (none does).
-/
module

public import proofs.«01_k».proof.Proof.Gen.Reference
public import Idealize.ShloMosaic.Lib.Routing.Ops
public import Idealize.ShloMosaic.Lib.ReduceAll

@[expose] public section

noncomputable section

namespace Cert.Reference.Taken

open Cert.Reference Cert.Reference.Gen Idealize.ShloMosaic Idealize.ShloMosaic.ValueIdx

variable {F : FTy → Type} [FloatOps F]

/-- The row numbers the reference asks for, one a row, as 32-bit words in a column. -/
abbrev ids : IVec S4096x1 32 :=
  broadcastInDim S4096x1 ![0] bcast_S4096_S4096x1_0
    (select (cmpi .slt (iotaInDim S4096 32 0) (broadcastInDim S4096 ![] bcast_S_S4096 (constantI S_ 32 0#32)))
      (addi (iotaInDim S4096 32 0) (broadcastInDim S4096 ![] bcast_S_S4096 (constantI S_ 32 4096#32)))
      (iotaInDim S4096 32 0))

/-- Which rows have a number from 0 to 4095, one bit a row. -/
abbrev inside : IVec S4096 1 :=
  Host.reduce IntOp.andi
    (andi (cmpi .sge ids (broadcastInDim S4096x1 ![] bcast_S_S4096x1 (constantI S_ 32 0#32)))
      (cmpi .sle ids (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The reference's result as its operations compose it: the taken rows where `inside`, the fixed value elsewhere. -/
abbrev taken (x : Vec F S4096x8192 .f32) : Vec F S4096x8192 .f32 :=
  select (broadcastInDim S4096x8192 ![0] bcast_S4096_S4096x8192_0 inside)
    (Host.gather gather_S4096x8192_S4096x1_S4096x8192_1_0_n_n_0_1_18192 x ids)
    (broadcastInDim S4096x8192 ![] bcast_S_S4096x8192 (constant S_ .f32 0x7FC00000#32))

/-- A number below 4096, as a 32-bit word read as a signed integer, is itself. -/
theorem toInt_word {r : ℕ} (hr : r < 4096) : (BitVec.ofNat 32 r).toInt = r := by
  rw [BitVec.toInt_eq_toNat_of_lt (by rw [BitVec.toNat_ofNat]; omega), BitVec.toNat_ofNat]
  omega

/-- Row `y` asks for its own number. -/
theorem ids_apply (y : S4096x1.Idx) : ids y = BitVec.ofNat 32 (y 0).val := by
  have hr : (y 0).val < 4096 := (y 0).isLt
  show Scalar.select (BitVec.ofBool ((BitVec.ofNat 32 (y 0).val).slt 0#32)) _ (BitVec.ofNat 32 (y 0).val) = _
  have : (BitVec.ofNat 32 (y 0).val).slt 0#32 = false := by
    rw [BitVec.slt_eq_decide, toInt_word hr]
    exact decide_eq_false (by rw [show (0#32).toInt = 0 from rfl]; omega)
  rw [this]
  rfl

/-- Every row number lies from 0 to 4095. -/
theorem inside_apply (j : S4096.Idx) : inside j = 1#1 := by
  refine Host.reduce_andi_one _ _ _ _ j rfl fun y => ?_
  have hr : (y 0).val < 4096 := (y 0).isLt
  show IntOp.andi (BitVec.ofBool ((0#32).sle (ids y))) (BitVec.ofBool ((ids y).sle 4095#32)) = 1#1
  have low : (0#32).sle (ids y) = true := by
    rw [ids_apply, BitVec.sle_eq_decide, toInt_word hr]
    exact decide_eq_true (by rw [show (0#32).toInt = 0 from rfl]; omega)
  have high : (ids y).sle 4095#32 = true := by
    rw [ids_apply, BitVec.sle_eq_decide, toInt_word hr]
    exact decide_eq_true (by rw [show (4095#32).toInt = 4095 from rfl]; omega)
  rw [low, high]
  rfl

/-- THE REFERENCE'S VALUE: its composed result is its argument. -/
theorem taken_eq (x : Vec F S4096x8192 .f32) : taken x = x := by
  funext y
  show Scalar.select (inside _) _ _ = _
  rw [inside_apply]
  show Host.gather gather_S4096x8192_S4096x1_S4096x8192_1_0_n_n_0_1_18192 x ids y = x y
  rw [eq_ix2 y]
  exact Routing.gather_row _ rfl rfl rfl rfl rfl x ids (y 0) (y 1) (y 0) (ids_apply _) (by decide)

end Cert.Reference.Taken

end
-- ==== Proof.lean ====
/-
  The certificate's proof: the seven statements of `Cert.Claim`, from one run of the kernel and one run of the reference.

  * The kernel's run (`Cert.Kernel.Copy.run`) holds at any reading of the floats. Its idealization has the same text, so
    the run read at the ideal floats is the idealization's.
  * The reference's run is generated with the program; `Cert.Reference.Taken.taken_eq` says that its result is its
    argument. The same holds of the idealized reference, which again has the same text.
  * The kernel's result is its argument too, so the two results are equal, over the ideal floats and over bits.
-/
module

public import proofs.«01_k».proof.Defs
public import proofs.«01_k».proof.Proof.Run
public import proofs.«01_k».proof.Proof.Taken
public import proofs.«01_k».proof.Proof.Gen.KernelIdeal
public import proofs.«01_k».proof.Proof.Gen.Reference.Run
public import proofs.«01_k».proof.Proof.Gen.ReferenceIdeal.Run

@[expose] public section

set_option maxRecDepth 16384

noncomputable section

namespace Cert.Proof

open Idealize.ShloMosaic Idealize.ShloMosaic.TcCoe Idealize.SL.Sem

/-- The idealized kernel's run: the kernel's, at the ideal floats. -/
theorem ideal_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))
        ∧ r.2.sem = fun _ => 0) :=
  Cert.Kernel.Copy.run (F := Ideal) m g

/-- The kernel ends with its argument unchanged and every semaphore at zero. -/
theorem frame_kernel : Cert.quiescent_Kernel := fun m g _ =>
  (θ_run _ _ _).mono (fun _ h => ⟨fun c => (h.1 c).2, h.2⟩) (Cert.Kernel.Copy.run m g)

/-- So does the idealized kernel. -/
theorem frame_kernelIdeal : Cert.quiescent_KernelIdeal := fun m g _ =>
  (θ_run _ _ _).mono (fun _ h => ⟨fun c => (h.1 c).2, h.2⟩) (ideal_run m g)

/-- So does the reference, which has no semaphore. -/
theorem frame_reference : Cert.quiescent_Reference := fun m g _ =>
  (θ_run _ _ _).mono (fun _ h => ⟨fun c => (h c).2, funext fun s => by rcases s with ⟨_, s⟩; nomatch s⟩)
    (Cert.Reference.Value.run m g)

/-- So does the idealized reference. -/
theorem frame_referenceIdeal : Cert.quiescent_ReferenceIdeal := fun m g _ =>
  (θ_run _ _ _).mono (fun _ h => ⟨fun c => (h c).2, funext fun s => by rcases s with ⟨_, s⟩; nomatch s⟩)
    (Cert.ReferenceIdeal.Value.run m g)

/-- Over the ideal floats the kernel and the reference, started on equal arguments, end with equal results: the argument. -/
theorem algebraic : Cert.algebraic_KernelIdeal_ReferenceIdeal := fun m g m' g' _ agree =>
  ⟨fun c => m ((c.tc : Thread Cert.KernelIdeal.nD Cert.KernelIdeal.τ).loc Cert.KernelIdeal.main_arg0),
    (θ_run _ _ _).mono (fun _ h => h.1) (ideal_run m g),
    (θ_run _ _ _).mono (fun _ h c => ⟨((h c).1.trans (Cert.Reference.Taken.taken_eq (F := Ideal) _)).trans (agree c), (h c).2⟩)
      (Cert.ReferenceIdeal.Value.run m' g')⟩

/-- So they do over bits. -/
theorem bitexact : Cert.bitexact_Kernel_Reference := fun m g m' g' _ agree =>
  ⟨fun c => m ((c.tc : Thread Cert.Kernel.nD Cert.Kernel.τ).loc Cert.Kernel.main_arg0),
    (θ_run _ _ _).mono (fun _ h => h.1) (Cert.Kernel.Copy.run m g),
    (θ_run _ _ _).mono (fun _ h c => ⟨((h c).1.trans (Cert.Reference.Taken.taken_eq (F := Bits) _)).trans (agree c), (h c).2⟩)
      (Cert.Reference.Value.run m' g')⟩

/-- THE CLAIM. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
